-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2560x1x6144 : Shape := ⟨3, ![2560, 1, 6144]⟩
abbrev S6144x8192 : Shape := ⟨2, ![6144, 8192]⟩
abbrev S24x16384 : Shape := ⟨2, ![24, 16384]⟩
abbrev S192x16384 : Shape := ⟨2, ![192, 16384]⟩
abbrev S2560x6144 : Shape := ⟨2, ![2560, 6144]⟩
abbrev S2560x16384 : Shape := ⟨2, ![2560, 16384]⟩
abbrev S6144x128 : Shape := ⟨2, ![6144, 128]⟩
abbrev S24x256 : Shape := ⟨2, ![24, 256]⟩
abbrev S192x256 : Shape := ⟨2, ![192, 256]⟩
abbrev S2560x512 : Shape := ⟨2, ![2560, 512]⟩
abbrev S6144x256 : Shape := ⟨2, ![6144, 256]⟩
abbrev S8x128 : Shape := ⟨2, ![8, 128]⟩
abbrev S1x256 : Shape := ⟨2, ![1, 256]⟩
abbrev S8x256 : Shape := ⟨2, ![8, 256]⟩
abbrev S32x128 : Shape := ⟨2, ![32, 128]⟩
abbrev S8x128x1 : Shape := ⟨3, ![8, 128, 1]⟩
abbrev S1x128 : Shape := ⟨2, ![1, 128]⟩
abbrev S320x6144 : Shape := ⟨2, ![320, 6144]⟩
abbrev S320x256 : Shape := ⟨2, ![320, 256]⟩

abbrev nBuf : Space → Nat
  | .hbm => 8
  | .vmem => 30
  | .smem => 0
  | _ => 0

abbrev bufTy : (tb : Table) → Fin (tcTables nBuf tb) → BufTy
  | .hbm, ⟨0, _⟩ => ⟨S2560x1x6144, .bf16⟩
  | .hbm, ⟨1, _⟩ => ⟨S6144x8192, .i8⟩
  | .hbm, ⟨2, _⟩ => ⟨S24x16384, .f16⟩
  | .hbm, ⟨3, _⟩ => ⟨S24x16384, .f16⟩
  | .hbm, ⟨4, _⟩ => ⟨S192x16384, .i8⟩
  | .hbm, ⟨5, _⟩ => ⟨S192x16384, .i8⟩
  | .hbm, ⟨6, _⟩ => ⟨S2560x6144, .bf16⟩
  | .hbm, ⟨7, _⟩ => ⟨S2560x16384, .bf16⟩
  | .local _ .vmem, ⟨0, _⟩ => ⟨S2560x6144, .bf16⟩
  | .local _ .vmem, ⟨1, _⟩ => ⟨S6144x128, .i8⟩
  | .local _ .vmem, ⟨2, _⟩ => ⟨S24x256, .f16⟩
  | .local _ .vmem, ⟨3, _⟩ => ⟨S24x256, .f16⟩
  | .local _ .vmem, ⟨4, _⟩ => ⟨S192x256, .i8⟩
  | .local _ .vmem, ⟨5, _⟩ => ⟨S192x256, .i8⟩
  | .local _ .vmem, ⟨6, _⟩ => ⟨S6144x128, .i8⟩
  | .local _ .vmem, ⟨7, _⟩ => ⟨S6144x128, .i8⟩
  | .local _ .vmem, ⟨8, _⟩ => ⟨S24x256, .f16⟩
  | .local _ .vmem, ⟨9, _⟩ => ⟨S24x256, .f16⟩
  | .local _ .vmem, ⟨10, _⟩ => ⟨S24x256, .f16⟩
  | .local _ .vmem, ⟨11, _⟩ => ⟨S24x256, .f16⟩
  | .local _ .vmem, ⟨12, _⟩ => ⟨S192x256, .i8⟩
  | .local _ .vmem, ⟨13, _⟩ => ⟨S192x256, .i8⟩
  | .local _ .vmem, ⟨14, _⟩ => ⟨S192x256, .i8⟩
  | .local _ .vmem, ⟨15, _⟩ => ⟨S192x256, .i8⟩
  | .local _ .vmem, ⟨16, _⟩ => ⟨S6144x128, .i8⟩
  | .local _ .vmem, ⟨17, _⟩ => ⟨S6144x128, .i8⟩
  | .local _ .vmem, ⟨18, _⟩ => ⟨S24x256, .f16⟩
  | .local _ .vmem, ⟨19, _⟩ => ⟨S24x256, .f16⟩
  | .local _ .vmem, ⟨20, _⟩ => ⟨S24x256, .f16⟩
  | .local _ .vmem, ⟨21, _⟩ => ⟨S24x256, .f16⟩
  | .local _ .vmem, ⟨22, _⟩ => ⟨S192x256, .i8⟩
  | .local _ .vmem, ⟨23, _⟩ => ⟨S192x256, .i8⟩
  | .local _ .vmem, ⟨24, _⟩ => ⟨S192x256, .i8⟩
  | .local _ .vmem, ⟨25, _⟩ => ⟨S192x256, .i8⟩
  | .local _ .vmem, ⟨26, _⟩ => ⟨S2560x512, .bf16⟩
  | .local _ .vmem, ⟨27, _⟩ => ⟨S2560x512, .bf16⟩
  | .local _ .vmem, ⟨28, _⟩ => ⟨S6144x256, .bf16⟩
  | .local _ .vmem, ⟨29, _⟩ => ⟨S6144x256, .bf16⟩
  | _, _ => ⟨S2560x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_10 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_11 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c63_i32 : BitVec 32 := 63#32
  let v2 : BitVec 32 := Scalar.minsi v1 c63_i32
  let c0_i32 : BitVec 32 := 0#32
  let c0_i32_1 : BitVec 32 := 0#32
  ![c0_i32.toNat, v2.toNat]

def cc0_transform_12 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c63_i32 : BitVec 32 := 63#32
  let v2 : BitVec 32 := Scalar.minsi v1 c63_i32
  let c0_i32 : BitVec 32 := 0#32
  let c0_i32_1 : BitVec 32 := 0#32
  ![c0_i32.toNat, v2.toNat]

def cc0_transform_13 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c63_i32 : BitVec 32 := 63#32
  let v2 : BitVec 32 := Scalar.minsi v1 c63_i32
  let c0_i32 : BitVec 32 := 0#32
  let c0_i32_1 : BitVec 32 := 0#32
  ![c0_i32.toNat, v2.toNat]

def cc0_transform_14 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c63_i32 : BitVec 32 := 63#32
  let v2 : BitVec 32 := Scalar.minsi v1 c63_i32
  let c0_i32 : BitVec 32 := 0#32
  let c0_i32_1 : BitVec 32 := 0#32
  ![c0_i32.toNat, v2.toNat]

def cc0_transform_15 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c63_i32 : BitVec 32 := 63#32
  let v2 : BitVec 32 := Scalar.minsi v1 c63_i32
  let c0_i32 : BitVec 32 := 0#32
  let c0_i32_1 : BitVec 32 := 0#32
  ![c0_i32.toNat, v2.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2560x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6144x128 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x256 .f16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x256 .f16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x256 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x256 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6144x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S24x256 .f16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S24x256 .f16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S192x256 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S192x256 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S6144x128 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S24x256 .f16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S24x256 .f16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S192x256 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S192x256 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2560x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S2560x1x6144 : Shape := ⟨3, ![2560, 1, 6144]⟩
abbrev S6144x8192 : Shape := ⟨2, ![6144, 8192]⟩
abbrev S24x16384 : Shape := ⟨2, ![24, 16384]⟩
abbrev S192x16384 : Shape := ⟨2, ![192, 16384]⟩
abbrev S2560x6144 : Shape := ⟨2, ![2560, 6144]⟩
abbrev S2560x16384 : Shape := ⟨2, ![2560, 16384]⟩
abbrev S6144x8192x1 : Shape := ⟨3, ![6144, 8192, 1]⟩
abbrev S6144x8192x2 : Shape := ⟨3, ![6144, 8192, 2]⟩
abbrev S6144x16384 : Shape := ⟨2, ![6144, 16384]⟩
abbrev S24x1x16384 : Shape := ⟨3, ![24, 1, 16384]⟩
abbrev S24x8x16384 : Shape := ⟨3, ![24, 8, 16384]⟩
abbrev S24x8x32x16384 : Shape := ⟨4, ![24, 8, 32, 16384]⟩
abbrev S24x8x1x16384 : Shape := ⟨4, ![24, 8, 1, 16384]⟩

abbrev nBuf : Space → Nat
  | .hbm => 8
  | .vmem => 7
  | .smem => 0
  | _ => 0

abbrev bufTy : (tb : Table) → Fin (tcTables nBuf tb) → BufTy
  | .hbm, ⟨0, _⟩ => ⟨S2560x1x6144, .bf16⟩
  | .hbm, ⟨1, _⟩ => ⟨S6144x8192, .i8⟩
  | .hbm, ⟨2, _⟩ => ⟨S24x16384, .f16⟩
  | .hbm, ⟨3, _⟩ => ⟨S24x16384, .f16⟩
  | .hbm, ⟨4, _⟩ => ⟨S192x16384, .i8⟩
  | .hbm, ⟨5, _⟩ => ⟨S192x16384, .i8⟩
  | .hbm, ⟨6, _⟩ => ⟨S2560x6144, .bf16⟩
  | .hbm, ⟨7, _⟩ => ⟨S2560x16384, .bf16⟩
  | .local _ .vmem, ⟨0, _⟩ => ⟨S2560x6144, .bf16⟩
  | .local _ .vmem, ⟨1, _⟩ => ⟨S6144x8192, .i8⟩
  | .local _ .vmem, ⟨2, _⟩ => ⟨S24x16384, .f16⟩
  | .local _ .vmem, ⟨3, _⟩ => ⟨S24x16384, .f16⟩
  | .local _ .vmem, ⟨4, _⟩ => ⟨S192x16384, .i8⟩
  | .local _ .vmem, ⟨5, _⟩ => ⟨S192x16384, .i8⟩
  | .local _ .vmem, ⟨6, _⟩ => ⟨S2560x16384, .bf16⟩
  | _, _ => ⟨S2560x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2560x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x16384 .f16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x16384 .f16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x16384 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x16384 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2560x16384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Codes.lean ====
/- One dequantised weight as a number: the four-bit code of a byte, its scale and its offset. -/
module

public import Idealize.ShloMosaic.Lib.Pointwise

@[expose] public section

noncomputable section

namespace Q4K

open Idealize.ShloMosaic

/-- The value of one of the two four-bit codes of a byte: the low one at even places, the high one at odd places. -/
def nib (q : BitVec 8) (p : ℕ) : ℤ := if p % 2 < 1 then q.toNat % 16 else q.toNat / 16

/-- A dequantised weight: the code times the sub-block's scale, less the sub-block's offset. -/
def wgt (q : BitVec 8) (p : ℕ) (d dm : EReal) (sc mn : BitVec 8) : EReal :=
  ((nib q p : ℝ) : EReal) * (d * ((sc.toNat : ℝ) : EReal)) - dm * ((mn.toNat : ℝ) : EReal)

/-- A weight depends on its place only through the place's parity. -/
theorem wgt_congr {q q' : BitVec 8} {p p' : ℕ} {d d' dm dm' : EReal} {sc sc' mn mn' : BitVec 8} (hq : q = q') (hp : p % 2 = p' % 2)
    (hd : d = d') (hm : dm = dm') (hs : sc = sc') (hn : mn = mn') : wgt q p d dm sc mn = wgt q' p' d' dm' sc' mn' := by
  subst hq hd hm hs hn
  unfold wgt nib
  rw [hp]

theorem lo_nib (q : BitVec 8) : (IntOp.andi (BitVec.setWidth 32 q) 15#32).toInt = q.toNat % 16 := by
  revert q; decide +kernel

theorem hi_nib (q : BitVec 8) :
    (IntOp.shrsi ArithUnit.vector (BitVec.setWidth 32 q) 4#32).toInt = q.toNat / 16 := by
  revert q; decide +kernel

theorem toInt_setWidth (s : BitVec 8) : (BitVec.setWidth 32 s).toInt = s.toNat := by
  revert s; decide +kernel

end Q4K

end
-- ==== Proof.Block.lean ====
/- One dequantised block of 32 rows and 128 columns, as the kernel computes it from a block of packed bytes, a scale row, an
   offset row and the sub-blocks' integers; and the block of a product that it stores. -/
module

public import proofs.«01_k».proof.Proof.Gen.KernelIdeal.Skeleton
public import proofs.«01_k».proof.Proof.Codes
public import Idealize.ShloMosaic.Lib.BitcastFour

@[expose] public section

noncomputable section

namespace Cert.KernelIdeal.Gen

open Idealize.ShloMosaic

variable {F : FTy → Type} [FloatOps F]

theorem slices_row (b h : ℕ) (hb : b < 8) (hh : h < 2) : S8x256.Slices ![b, 128 * h] S1x128 := by
  interval_cases b <;> interval_cases h <;> decide

/-- The words that hold the codes of one half of the columns: each lane fetches the word of its column pair, and shifts its
    code down. -/
def words (h : ℕ) (q : Vec F S32x128 .i8) : IVec S8x128 32 :=
  have lane : IVec S8x128 32 := iota .tc S8x128 32 [1] iota_S8x128_d1_w32
  have shift : IVec S8x128 32 := shli (andi lane (broadcast S8x128 1#32)) (broadcast S8x128 2#32)
  have at0 : IVec S8x128 32 := addi (shrsi lane (broadcast S8x128 1#32)) (broadcast S8x128 (BitVec.ofNat 32 (64 * h)))
  have at1 : IVec S8x128 32 := select (cmpi .slt at0 (broadcast S8x128 0#32)) (addi at0 (broadcast S8x128 128#32)) at0
  have at2 : IVec S8x128 32 := shapeCast S8x128 (shapeCast S8x128x1 at1 shapeCasts_S8x128_S8x128x1) shapeCasts_S8x128x1_S8x128
  andi (shrui (dynamicGather 1 (bitcast S8x128 32 q bitcasts_S32x128_w8_S8x128_w32) at2) shift) (broadcast S8x128 252645135#32)

/-- The scales of eight sub-blocks: the row times the integers. -/
def scales (d : Vec F S1x256 .f16) (sc : Vec F S8x256 .i8) : FVec F S8x256 .f32 :=
  mulf (broadcastTo S8x256 (extf .f32 (φ := .f16) d bitsLt_f16_f32 : FVec F S1x256 .f32) broadcasts_S1x256_S8x256)
    (sitofp .f32 (extui 32 sc natLt_8_32 : IVec S8x256 32))

/-- The block. -/
def blk (b h : ℕ) (hs : S8x256.Slices ![b, 128 * h] S1x128) (d dm : Vec F S1x256 .f16) (sc mn : Vec F S8x256 .i8)
    (q : Vec F S32x128 .i8) : FVec F S32x128 .bf16 :=
  have codes : FVec F S32x128 .f32 :=
    extf .f32 (sitofp .bf16 (bitcast S32x128 8 (words h q) bitcasts_S8x128_w32_S32x128_w8 : IVec S32x128 8) : FVec F S32x128 .bf16) bitsLt_bf16_f32
  have s : FVec F S32x128 .f32 := broadcastTo S32x128 (extractStridedSlice S1x128 ![b, 128 * h] (scales d sc) hs) broadcasts_S1x128_S32x128
  have o : FVec F S32x128 .f32 := broadcastTo S32x128 (extractStridedSlice S1x128 ![b, 128 * h] (scales dm mn) hs) broadcasts_S1x128_S32x128
  have w : FVec F S32x128 .f32 := subf (mulf codes s) o
  shapeCast S32x128 (truncf .bf16 w bitsLt_bf16_f32 : FVec F S32x128 .bf16) shapeCasts_S32x128_S32x128

/-- The block of the product. -/
def prod (x : Vec F S320x6144 .bf16) (w : Vec F S6144x256 .bf16) : FVec F S320x256 .bf16 :=
  truncf .bf16 (matmul (φ₁ := .bf16) (φ₂ := .bf16) dot_S320x6144_S6144x256_S320x256_1_0_0_1_n_n none
    (shapeCast (α := F .bf16) S320x6144 x shapeCasts_S320x6144_S320x6144) w (constant S320x256 .f32 0x00000000#32)) bitsLt_bf16_f32

end Cert.KernelIdeal.Gen

end
-- ==== Proof.BlockAt.lean ====
/- The kernel's block of weights and its block of a product, read at an index over the extended reals. -/
module

public import proofs.«01_k».proof.Proof.Block

@[expose] public section

noncomputable section

namespace Cert.KernelIdeal.Gen

open Idealize.ShloMosaic

/-- The lane that lane `l` fetches from. -/
theorem lane_eq (h : Fin 2) (l : Fin 128) :
    (Scalar.select (IntOp.cmpi CmpIPredicate.slt
        (IntOp.addi (IntOp.shrsi ArithUnit.vector (BitVec.ofNat 32 l.val) 1#32) (BitVec.ofNat 32 (64 * h.val))) 0#32)
      (IntOp.addi (IntOp.addi (IntOp.shrsi ArithUnit.vector (BitVec.ofNat 32 l.val) 1#32) (BitVec.ofNat 32 (64 * h.val))) 128#32)
      (IntOp.addi (IntOp.shrsi ArithUnit.vector (BitVec.ofNat 32 l.val) 1#32) (BitVec.ofNat 32 (64 * h.val)))).toNat % 128
      = 64 * h.val + l.val / 2 := by
  revert h l; decide +kernel

/-- The shift of lane `l`. -/
theorem shift_eq (l : Fin 128) :
    IntOp.shli ArithUnit.vector (IntOp.andi (BitVec.ofNat 32 l.val) 1#32) 2#32 = BitVec.ofNat 32 (4 * (l.val % 2)) := by
  revert l; decide +kernel

theorem words_apply (h : ℕ) (hh : h < 2) (q : Vec Ideal S32x128 .i8) (a : Fin 8) (l : Fin 128) :
    words (F := Ideal) h q (ix2 a l) =
      IntOp.andi (IntOp.shrui ArithUnit.vector (bitcast S8x128 32 q bitcasts_S32x128_w8_S8x128_w32 (ix2 a ⟨64 * h + l.val / 2, by omega⟩))
        (BitVec.ofNat 32 (4 * (l.val % 2)))) 252645135#32 := by
  rw [← shift_eq]
  have e := lane_eq ⟨h, hh⟩ l
  have e' : (⟨64 * h + l.val / 2, by omega⟩ : Fin 128) = ⟨_, Nat.mod_lt _ (by decide)⟩ := Fin.ext e.symm
  rw [e']
  pointwise [words]

/-- A bit of the word that holds four rows' codes. -/
theorem mask_bit (w : BitVec 32) (s : ℕ) (hs : s < 2) (i : ℕ) (hi : i < 32) :
    (IntOp.andi (IntOp.shrui ArithUnit.vector w (BitVec.ofNat 32 (4 * s))) 252645135#32).getLsbD i
      = (decide (i % 8 < 4) && w.getLsbD (4 * s + i)) := by
  have hm : ∀ i : Fin 32, (252645135#32).getLsbD i.val = decide (i.val % 8 < 4) := by decide
  have hm := hm ⟨i, hi⟩
  simp only at hm
  have e : IntOp.shrui ArithUnit.vector w (BitVec.ofNat 32 (4 * s)) = w >>> (4 * s) := by
    interval_cases s <;> rfl
  rw [e]
  show ((w >>> (4 * s)) &&& 252645135#32).getLsbD i = _
  rw [BitVec.getLsbD_and, hm, BitVec.getLsbD_ushiftRight, Bool.and_comm]

/-- The byte of a row's code. -/
theorem byte_apply (h : ℕ) (hh : h < 2) (q : Vec Ideal S32x128 .i8) (r : Fin 32) (l : Fin 128) :
    bitcast S32x128 8 (words (F := Ideal) h q) bitcasts_S8x128_w32_S32x128_w8 (ix2 r l)
      = ((q (ix2 r ⟨64 * h + l.val / 2, by omega⟩) : BitVec 8) >>> (4 * (l.val % 2))) &&& 15#8 := by
  apply BitVec.eq_of_getLsbD_eq
  intro i hi
  rw [bitcast_getLsbD _ _ _ i hi (by decide)]
  have e1 : (S32x128.row (ix2 r l)) = r.val := rfl
  have hsrc : Shape.Bitcasts.srcIdx bitcasts_S8x128_w32_S32x128_w8 (ix2 r l) ((S32x128.row (ix2 r l) * 8 + i) / 32)
      (fun a ha => (Nat.div_lt_iff_lt_mul (by decide)).2 (Shape.Bitcasts.pos_lt bitcasts_S8x128_w32_S32x128_w8 (ix2 r l) i hi a ha))
      = ix2 (⟨r.val / 4, by omega⟩ : Fin 8) l := by
    funext c
    match c with
    | ⟨0, _⟩ =>
      refine Fin.ext ((Shape.Bitcasts.srcIdx_row _ _ _ _ ⟨0, Nat.zero_lt_two⟩ rfl).trans ?_)
      rw [e1]; show (r.val * 8 + i) / 32 = r.val / 4; omega
    | ⟨1, _⟩ => exact Fin.ext (Shape.Bitcasts.srcIdx_other _ _ _ _ ⟨1, Nat.one_lt_two⟩ (by show ¬ 1 + 2 = 2; omega))
  rw [hsrc, e1, words_apply h hh, mask_bit _ _ (by omega) _ (by omega)]
  have hm : ∀ i : Fin 8, (15#8).getLsbD i.val = decide (i.val < 4) := by decide
  have hm := hm ⟨i, hi⟩
  simp only at hm
  rw [BitVec.getLsbD_and, hm, BitVec.getLsbD_ushiftRight, Bool.and_comm]
  by_cases hi4 : i < 4
  · have e2 : (r.val * 8 + i) % 32 % 8 = i := by omega
    rw [e2]
    congr 1
    have := bitcast_8_32_getLsbD_ix2 q bitcasts_S32x128_w8_S8x128_w32 (⟨r.val / 4, by omega⟩ : Fin 8) (⟨64 * h + l.val / 2, by omega⟩ : Fin 128)
      (4 * (l.val % 2) + (r.val * 8 + i) % 32) (by omega) r (by show r.val = 4 * (r.val / 4) + _; omega)
    have e3 : (4 * (l.val % 2) + (r.val * 8 + i) % 32) % 8 = 4 * (l.val % 2) + i := by omega
    rw [e3] at this
    exact this
  · have e2 : ¬ (r.val * 8 + i) % 32 % 8 < 4 := by omega
    simp only [decide_eq_false e2, decide_eq_false hi4, Bool.false_and, Bool.and_false]

theorem code_eq (q : BitVec 8) (p : ℕ) : ((q >>> (4 * (p % 2))) &&& 15#8).toInt = Q4K.nib q p := by
  have H : ∀ (q : BitVec 8) (p : Fin 2), ((q >>> (4 * p.val)) &&& 15#8).toInt = if p.val < 1 then (q.toNat % 16 : ℤ) else q.toNat / 16 := by
    decide +kernel
  exact H q ⟨p % 2, by omega⟩

theorem scales_apply (d : Vec Ideal S1x256 .f16) (sc : Vec Ideal S8x256 .i8) (a : Fin 8) (l : Fin 256) :
    scales d sc (ix2 a l) = ((d (ix2 0 l) : EReal) * (((sc (ix2 a l) : BitVec 8).toNat : ℝ) : EReal) : EReal) := by
  rw [← Int.cast_natCast, ← Q4K.toInt_setWidth]
  pointwise [scales]
  rfl

theorem blk_apply' (b h : ℕ) (hb : b < 8) (hh : h < 2) (hs : S8x256.Slices ![b, 128 * h] S1x128) (d dm : Vec Ideal S1x256 .f16) (sc mn : Vec Ideal S8x256 .i8)
    (q : Vec Ideal S32x128 .i8) (r : Fin 32) (l : Fin 128) :
    blk b h hs d dm sc mn q (ix2 r l) =
      FloatOps.sitofp FTy.bf16 (bitcast S32x128 8 (words h q) bitcasts_S8x128_w32_S32x128_w8 (ix2 r l)) *
        scales d sc (ix2 ⟨b, hb⟩ ⟨128 * h + l.val, by omega⟩) - scales dm mn (ix2 ⟨b, hb⟩ ⟨128 * h + l.val, by omega⟩) := by
  unfold blk
  generalize scales d sc = S
  generalize scales dm mn = O
  generalize words h q = W
  pointwise

/-- The block read at an index. -/
theorem blk_apply (b h : ℕ) (hb : b < 8) (hh : h < 2) (hs : S8x256.Slices ![b, 128 * h] S1x128) (d dm : Vec Ideal S1x256 .f16) (sc mn : Vec Ideal S8x256 .i8)
    (q : Vec Ideal S32x128 .i8) (r : Fin 32) (l : Fin 128) :
    blk b h hs d dm sc mn q (ix2 r l) = Q4K.wgt (q (ix2 r ⟨64 * h + l.val / 2, by omega⟩)) l.val
      (d (ix2 0 ⟨128 * h + l.val, by omega⟩)) (dm (ix2 0 ⟨128 * h + l.val, by omega⟩))
      (sc (ix2 ⟨b, hb⟩ ⟨128 * h + l.val, by omega⟩)) (mn (ix2 ⟨b, hb⟩ ⟨128 * h + l.val, by omega⟩)) := by
  rw [blk_apply' b h hb hh, scales_apply, scales_apply, byte_apply h hh, Q4K.wgt, ← code_eq]
  rfl

/-- The block of the product read at an index. -/
theorem prod_apply (x : Vec Ideal S320x6144 .bf16) (w : Vec Ideal S6144x256 .bf16) (r : Fin 320) (l : Fin 256) :
    prod x w (ix2 r l) = (∑ k : Fin 6144, (x (ix2 r k) : EReal) * (w (ix2 k l) : EReal) : EReal) := by
  pointwise [prod]

end Cert.KernelIdeal.Gen
end
-- ==== Proof.Pieces.lean ====
/- The blocks that one dequantisation stores into a scratch array, and the blocks of the product that a step stores into the
   result's buffer, as lists: the runs' pieces are these lists. -/
module

public import proofs.«01_k».proof.Proof.Gen.KernelIdeal.Frame.RunB
public import proofs.«01_k».proof.Proof.Block

@[expose] public section

noncomputable section

namespace Cert.KernelIdeal.Gen

open Idealize.ShloMosaic Idealize.ShloMosaic.TcCoe Idealize.ShloMosaic.Tactic

variable {F : FTy → Type} [FloatOps F]

theorem inb_w (n : ℕ) : ∀ a, (![32 * (n / 2 % 192), 128 * (n % 2)] : Fin 2 → ℕ) a + S32x128.size a ≤ S6144x256.size a := by
  intro a; fin_cases a
  · show 32 * (n / 2 % 192) + 32 ≤ 6144; omega
  · show 128 * (n % 2) + 128 ≤ 256; omega

theorem inb_q (n : ℕ) : ∀ a, (![32 * (n / 2 % 192), 0] : Fin 2 → ℕ) a + S32x128.size a ≤ S6144x128.size a := by
  intro a; fin_cases a
  · show 32 * (n / 2 % 192) + 32 ≤ 6144; omega
  · show 0 + 128 ≤ 128; omega

theorem inb_d (n : ℕ) : ∀ a, (![n / 16 % 24, 0] : Fin 2 → ℕ) a + S1x256.size a ≤ S24x256.size a := by
  intro a; fin_cases a
  · show n / 16 % 24 + 1 ≤ 24; omega
  · show 0 + 256 ≤ 256; omega

theorem inb_s (n : ℕ) : ∀ a, (![8 * (n / 16 % 24), 0] : Fin 2 → ℕ) a + S8x256.size a ≤ S192x256.size a := by
  intro a; fin_cases a
  · show 8 * (n / 16 % 24) + 8 ≤ 192; omega
  · show 0 + 256 ≤ 256; omega

theorem inb_x (n : ℕ) : ∀ a, (![320 * (n % 8), 0] : Fin 2 → ℕ) a + S320x6144.size a ≤ S2560x6144.size a := by
  intro a; fin_cases a
  · show 320 * (n % 8) + 320 ≤ 2560; omega
  · show 0 + 6144 ≤ 6144; omega

theorem inb_y (n h : ℕ) (hh : h < 2) : ∀ a, (![320 * (n % 8), 256 * h] : Fin 2 → ℕ) a + S320x256.size a ≤ S2560x512.size a := by
  intro a; fin_cases a
  · show 320 * (n % 8) + 320 ≤ 2560; omega
  · show 256 * h + 256 ≤ 512; omega

section
variable (aq : Memref sig .tc .vmem S6144x128 .i8) (hq : aq.IsWhole) (ad : Memref sig .tc .vmem S24x256 .f16) (hd : ad.IsWhole)
  (am : Memref sig .tc .vmem S24x256 .f16) (hm : am.IsWhole) (asc : Memref sig .tc .vmem S192x256 .i8) (hs : asc.IsWhole)
  (an : Memref sig .tc .vmem S192x256 .i8) (hn : an.IsWhole)
  (q : Vec F S6144x128 .i8) (d dm : Vec F S24x256 .f16) (sc mn : Vec F S192x256 .i8)

/-- Block `n` of a dequantisation: rows `32 * (n / 2)`, half `n % 2` of the columns. -/
def wpiece (n : ℕ) : View.Piece (Elt F) S6144x256 .bf16 :=
  ⟨Rect.unit ![32 * (n / 2 % 192), 128 * (n % 2)] S32x128.size (inb_w n),
    blk (n / 2 % 8) (n % 2) (slices_row _ _ (Nat.mod_lt _ (by decide)) (Nat.mod_lt _ (by decide)))
      (View.readAt (Elt F) ad.view (Rect.unit (s := S24x256) ![n / 16 % 24, 0] S1x256.size (inb_d n)).toLoadRect (hd.unread d))
      (View.readAt (Elt F) am.view (Rect.unit (s := S24x256) ![n / 16 % 24, 0] S1x256.size (inb_d n)).toLoadRect (hm.unread dm))
      (View.readAt (Elt F) asc.view (Rect.unit (s := S192x256) ![8 * (n / 16 % 24), 0] S8x256.size (inb_s n)).toLoadRect (hs.unread sc))
      (View.readAt (Elt F) an.view (Rect.unit (s := S192x256) ![8 * (n / 16 % 24), 0] S8x256.size (inb_s n)).toLoadRect (hn.unread mn))
      (View.readAt (Elt F) aq.view (Rect.unit (s := S6144x128) ![32 * (n / 2 % 192), 0] S32x128.size (inb_q n)).toLoadRect (hq.unread q))⟩

/-- The first `n` blocks, the last first, over earlier stores. -/
def wlist (L : List (View.Piece (Elt F) S6144x256 .bf16)) (n : ℕ) : List (View.Piece (Elt F) S6144x256 .bf16) :=
  Nat.rec L (fun k l => wpiece aq hq ad hd am hm asc hs an hn q d dm sc mn k :: l) n

end

section
variable (ax : Memref sig .tc .vmem S2560x6144 .bf16) (hx : ax.IsWhole) (x : Vec F S2560x6144 .bf16)

/-- Row chunk `n` of one half of the step's columns. -/
def ypiece (h : ℕ) (hh : h < 2) (w : Vec F S6144x256 .bf16) (n : ℕ) : View.Piece (Elt F) S2560x512 .bf16 :=
  ⟨Rect.unit ![320 * (n % 8), 256 * h] S320x256.size (inb_y n h hh),
    prod (View.readAt (Elt F) ax.view (Rect.unit (s := S2560x6144) ![320 * (n % 8), 0] S320x6144.size (inb_x n)).toLoadRect (hx.unread x)) w⟩

/-- The chunks of one half, the last first, over earlier stores. -/
def ylist (L : List (View.Piece (Elt F) S2560x512 .bf16)) (h : ℕ) (hh : h < 2) (w : Vec F S6144x256 .bf16) (n : ℕ) :
    List (View.Piece (Elt F) S2560x512 .bf16) :=
  Nat.rec L (fun k l => ypiece ax hx x h hh w k :: l) n

end

/-! ## The runs' lists -/

section
variable (c : Dev nD) (i : grid0.Coords)
  (arg1 : Memref sig .tc .vmem S2560x6144 .bf16) (harg1 : arg1.IsWhole)
  (arg2 : Memref sig .tc .vmem S6144x128 .i8) (harg2 : arg2.IsWhole)
  (arg3 : Memref sig .tc .vmem S24x256 .f16) (harg3 : arg3.IsWhole)
  (arg4 : Memref sig .tc .vmem S24x256 .f16) (harg4 : arg4.IsWhole)
  (arg5 : Memref sig .tc .vmem S192x256 .i8) (harg5 : arg5.IsWhole)
  (arg6 : Memref sig .tc .vmem S192x256 .i8) (harg6 : arg6.IsWhole)
  (arg7 : Memref sig .tc .vmem S6144x128 .i8) (harg7 : arg7.IsWhole)
  (arg8 : Memref sig .tc .vmem S24x256 .f16) (harg8 : arg8.IsWhole)
  (arg9 : Memref sig .tc .vmem S24x256 .f16) (harg9 : arg9.IsWhole)
  (arg10 : Memref sig .tc .vmem S192x256 .i8) (harg10 : arg10.IsWhole)
  (arg11 : Memref sig .tc .vmem S192x256 .i8) (harg11 : arg11.IsWhole)
  (arg12 : Memref sig .tc .vmem S6144x128 .i8) (harg12 : arg12.IsWhole)
  (arg13 : Memref sig .tc .vmem S24x256 .f16) (harg13 : arg13.IsWhole)
  (arg14 : Memref sig .tc .vmem S24x256 .f16) (harg14 : arg14.IsWhole)
  (arg15 : Memref sig .tc .vmem S192x256 .i8) (harg15 : arg15.IsWhole)
  (arg16 : Memref sig .tc .vmem S192x256 .i8) (harg16 : arg16.IsWhole)
  (arg17 : Memref sig .tc .vmem S2560x512 .bf16) (harg17 : arg17.IsWhole)
  (arg18 : Memref sig .tc .vmem S6144x256 .bf16) (harg18 : arg18.IsWhole)
  (arg19 : Memref sig .tc .vmem S6144x256 .bf16) (harg19 : arg19.IsWhole)
  (x0 : Vec F S2560x6144 .bf16)
  (x1 : Vec F S6144x128 .i8)
  (x2 : Vec F S24x256 .f16)
  (x3 : Vec F S24x256 .f16)
  (x4 : Vec F S192x256 .i8)
  (x5 : Vec F S192x256 .i8)
  (x6 : Vec F S6144x128 .i8)
  (x7 : Vec F S24x256 .f16)
  (x8 : Vec F S24x256 .f16)
  (x9 : Vec F S192x256 .i8)
  (x10 : Vec F S192x256 .i8)
  (x11 : Vec F S6144x128 .i8)
  (x12 : Vec F S24x256 .f16)
  (x13 : Vec F S24x256 .f16)
  (x14 : Vec F S192x256 .i8)
  (x15 : Vec F S192x256 .i8)

/-- The first step leaves in the carried array the next tile over the first one. -/
theorem carried_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15).2.1
      = wlist arg12 harg12 arg13 harg13 arg14 harg14 arg15 harg15 arg16 harg16 x11 x12 x13 x14 x15 (wlist arg2 harg2 arg3 harg3 arg4 harg4 arg5 harg5 arg6 harg6 x1 x2 x3 x4 x5 [] 384) 384 := by
  sl_kernel_rfl

/-- A later step leaves in the carried array the next tile. -/
theorem carried_B (hc0 : ¬ cond0_0 i) (xs0 : Vec F S6144x256 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 xs0).2.1
      = wlist arg12 harg12 arg13 harg13 arg14 harg14 arg15 harg15 arg16 harg16 x11 x12 x13 x14 x15 [] 384 := by
  sl_kernel_rfl

/-- The first step's result: the rows times the first tile, then times the second. -/
theorem result_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15).1
      = ylist arg1 harg1 x0 (ylist arg1 harg1 x0 [] 0 (by decide)
          (arg18.view.readCov (wlist arg2 harg2 arg3 harg3 arg4 harg4 arg5 harg5 arg6 harg6 x1 x2 x3 x4 x5 [] 384) (Rect.unit (s := S6144x256) ![0, 0] S6144x256.size inb_S6144x256_S6144x256_0_0).toLoadRect) 8) 1 (by decide)
          (arg19.view.readCov (wlist arg7 harg7 arg8 harg8 arg9 harg9 arg10 harg10 arg11 harg11 x6 x7 x8 x9 x10 [] 384) (Rect.unit (s := S6144x256) ![0, 0] S6144x256.size inb_S6144x256_S6144x256_0_0).toLoadRect) 8 := by
  sl_kernel_rfl

/-- A later step's result: the rows times the carried tile, then times the step's own. -/
theorem result_B (hc0 : ¬ cond0_0 i) (xs0 : Vec F S6144x256 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 xs0).1
      = ylist arg1 harg1 x0 (ylist arg1 harg1 x0 [] 0 (by decide)
          (View.readAt (Elt F) arg18.view (Rect.unit (s := S6144x256) ![0, 0] S6144x256.size inb_S6144x256_S6144x256_0_0).toLoadRect (harg18.unread xs0)) 8) 1 (by decide)
          (arg19.view.readCov (wlist arg7 harg7 arg8 harg8 arg9 harg9 arg10 harg10 arg11 harg11 x6 x7 x8 x9 x10 [] 384) (Rect.unit (s := S6144x256) ![0, 0] S6144x256.size inb_S6144x256_S6144x256_0_0).toLoadRect) 8 := by
  sl_kernel_rfl

end

end Cert.KernelIdeal.Gen

end
-- ==== Proof.Tiles.lean ====
/- The arrays that the lists of stores leave: a scratch array holds the dequantised tile, and the result's buffer holds the
   product of the rows with two tiles. -/
module

public import proofs.«01_k».proof.Proof.BlockAt
public import proofs.«01_k».proof.Proof.Pieces
public import Idealize.ShloMosaic.Lib.WholeRead
public import Idealize.ShloMosaic.Lib.WritesUnit

@[expose] public section

noncomputable section

namespace Cert.KernelIdeal.Gen

open Idealize.ShloMosaic Idealize.ShloMosaic.TcCoe

/-- A tile's weights. -/
def tile (q : Vec Ideal S6144x128 .i8) (d dm : Vec Ideal S24x256 .f16) (sc mn : Vec Ideal S192x256 .i8) : Vec Ideal S6144x256 .bf16 :=
  fun y =>
    have k : Fin 6144 := y 0
    have c : Fin 256 := y 1
    (Q4K.wgt (q (ix2 k (⟨c.val / 2, by omega⟩ : Fin 128))) c.val (d (ix2 (⟨k.val / 256, by omega⟩ : Fin 24) c))
      (dm (ix2 (⟨k.val / 256, by omega⟩ : Fin 24) c)) (sc (ix2 (⟨k.val / 32, by omega⟩ : Fin 192) c))
      (mn (ix2 (⟨k.val / 32, by omega⟩ : Fin 192) c)) : EReal)

section
variable (aq : Memref sig .tc .vmem S6144x128 .i8) (hq : aq.IsWhole) (ad : Memref sig .tc .vmem S24x256 .f16) (hd : ad.IsWhole)
  (am : Memref sig .tc .vmem S24x256 .f16) (hm : am.IsWhole) (asc : Memref sig .tc .vmem S192x256 .i8) (hs : asc.IsWhole)
  (an : Memref sig .tc .vmem S192x256 .i8) (hn : an.IsWhole)
  (q : Vec Ideal S6144x128 .i8) (d dm : Vec Ideal S24x256 .f16) (sc mn : Vec Ideal S192x256 .i8)

/-- Block `n` holds the tile's weights at its place. -/
theorem wpiece_apply (n : ℕ) (k : Fin 6144) (c : Fin 256) (hk : k.val / 32 = n / 2) (hc : c.val / 128 = n % 2) :
    (wpiece (F := Ideal) aq hq ad hd am hm asc hs an hn q d dm sc mn n).2
        (ix2 (⟨k.val % 32, by omega⟩ : Fin 32) (⟨c.val % 128, by omega⟩ : Fin 128))
      = tile q d dm sc mn (ix2 k c) := by
  unfold wpiece
  dsimp only
  rw [blk_apply _ _ (Nat.mod_lt _ (by decide)) (Nat.mod_lt _ (by decide)), hq.readAt_unread, hd.readAt_unread, hm.readAt_unread, hs.readAt_unread, hn.readAt_unread]
  have ed : (Rect.unit (s := S24x256) ![n / 16 % 24, 0] S1x256.size (inb_d n)).toLoadRect.idx
      (ix2 (0 : Fin 1) (⟨128 * (n % 2) + c.val % 128, by omega⟩ : Fin 256)) = ix2 (⟨k.val / 256, by omega⟩ : Fin 24) c := by
    refine funext (Fin.forall_fin_two.mpr ⟨Fin.ext ?_, Fin.ext ?_⟩)
    · show n / 16 % 24 + 1 * 0 = k.val / 256; omega
    · show 0 + 1 * (128 * (n % 2) + c.val % 128) = c.val; omega
  have es : (Rect.unit (s := S192x256) ![8 * (n / 16 % 24), 0] S8x256.size (inb_s n)).toLoadRect.idx
      (ix2 (⟨n / 2 % 8, Nat.mod_lt _ (by decide)⟩ : Fin 8) (⟨128 * (n % 2) + c.val % 128, by omega⟩ : Fin 256))
        = ix2 (⟨k.val / 32, by omega⟩ : Fin 192) c := by
    refine funext (Fin.forall_fin_two.mpr ⟨Fin.ext ?_, Fin.ext ?_⟩)
    · show 8 * (n / 16 % 24) + 1 * (n / 2 % 8) = k.val / 32; omega
    · show 0 + 1 * (128 * (n % 2) + c.val % 128) = c.val; omega
  have eq : (Rect.unit (s := S6144x128) ![32 * (n / 2 % 192), 0] S32x128.size (inb_q n)).toLoadRect.idx
      (ix2 (⟨k.val % 32, by omega⟩ : Fin 32) (⟨64 * (n % 2) + c.val % 128 / 2, by omega⟩ : Fin 128))
        = ix2 k (⟨c.val / 2, by omega⟩ : Fin 128) := by
    refine funext (Fin.forall_fin_two.mpr ⟨Fin.ext ?_, Fin.ext ?_⟩)
    · show 32 * (n / 2 % 192) + 1 * (k.val % 32) = k.val; omega
    · show 0 + 1 * (64 * (n % 2) + c.val % 128 / 2) = c.val / 2; omega
  exact Q4K.wgt_congr (congrArg q eq) (by show c.val % 128 % 2 = c.val % 2; omega) (congrArg d ed) (congrArg dm ed)
    (congrArg sc es) (congrArg mn es)

/-- Over any earlier contents, the first `n` blocks leave the tile's weights at every place they hold. -/
theorem read_wlist {sp : Space} (v : View sig .tc sp S6144x256 .bf16) (f : v.ty.Contents (Elt Ideal)) (L : List (View.Piece (Elt Ideal) S6144x256 .bf16))
    (k : Fin 6144) (c : Fin 256) (n : ℕ) (hn384 : n ≤ 384) (hy : 2 * (k.val / 32) + c.val / 128 < n) :
    v.read (Elt Ideal) (v.writes (Elt Ideal) f (wlist (F := Ideal) aq hq ad hd am hm asc hs an hn q d dm sc mn L n)) (ix2 k c)
      = tile q d dm sc mn (ix2 k c) := by
  induction n with
  | zero => omega
  | succ n ih =>
    by_cases e : 2 * (k.val / 32) + c.val / 128 = n
    · rw [← wpiece_apply aq hq ad hd am hm asc hs an hn q d dm sc mn n k c (by omega) (by omega)]
      refine View.read_writes_cons_unit_of_mem v f (inb_w n) _ _ _ _ rfl (Fin.forall_fin_two.mpr ⟨?_, ?_⟩)
      · show k.val = 32 * (n / 2 % 192) + k.val % 32; omega
      · show c.val = 128 * (n % 2) + c.val % 128; omega
    · refine Eq.trans ?_ (ih (by omega) (by omega))
      by_cases e0 : k.val / 32 = n / 2 % 192
      · refine View.read_writes_cons_unit_of_not_mem v f (inb_w n) _ _ _ rfl 1 ?_
        show c.val < 128 * (n % 2) ∨ 128 * (n % 2) + 128 ≤ c.val; omega
      · refine View.read_writes_cons_unit_of_not_mem v f (inb_w n) _ _ _ rfl 0 ?_
        show k.val < 32 * (n / 2 % 192) ∨ 32 * (n / 2 % 192) + 32 ≤ k.val; omega

/-- All the blocks leave the tile. -/
theorem read_wlist_all {sp : Space} (v : View sig .tc sp S6144x256 .bf16) (f : v.ty.Contents (Elt Ideal)) (L : List (View.Piece (Elt Ideal) S6144x256 .bf16)) :
    v.read (Elt Ideal) (v.writes (Elt Ideal) f (wlist (F := Ideal) aq hq ad hd am hm asc hs an hn q d dm sc mn L 384))
      = tile q d dm sc mn := by
  funext y
  have e := read_wlist aq hq ad hd am hm asc hs an hn q d dm sc mn v f L (y 0) (y 1) 384 le_rfl (by
    have h0 : (y 0).val < 6144 := (y 0).isLt
    have h1 : (y 1).val < 256 := (y 1).isLt
    omega)
  rwa [show (ix2 (y 0) (y 1) : S6144x256.Idx) = y from funext (Fin.forall_fin_two.mpr ⟨rfl, rfl⟩)] at e

theorem idx_whole (j : S6144x256.Idx) :
    (Rect.unit (s := S6144x256) ![0, 0] S6144x256.size inb_S6144x256_S6144x256_0_0).toLoadRect.idx j = j :=
  funext (Fin.forall_fin_two.mpr ⟨Fin.ext (by show 0 + 1 * (j 0).val = (j 0).val; omega), Fin.ext (by show 0 + 1 * (j 1).val = (j 1).val; omega)⟩)

/-- A load of the whole array reads what the stores left. -/
theorem readCov_whole {sp : Space} (v : View sig .tc sp S6144x256 .bf16) (L : List (View.Piece (Elt Ideal) S6144x256 .bf16))
    (T : Vec Ideal S6144x256 .bf16) (h : v.read (Elt Ideal) (v.writes (Elt Ideal) v.junk L) = T) :
    v.readCov L (Rect.unit (s := S6144x256) ![0, 0] S6144x256.size inb_S6144x256_S6144x256_0_0).toLoadRect = T := by
  funext j
  show v.read (Elt Ideal) (v.writes (Elt Ideal) v.junk L) (LoadRect.idx _ j) = T j
  rw [h, idx_whole]

end

section
variable (ax : Memref sig .tc .vmem S2560x6144 .bf16) (hx : ax.IsWhole) (x : Vec Ideal S2560x6144 .bf16)

/-- The first `n` row chunks leave the product at every place of their half that they hold. -/
theorem read_ylist {sp : Space} (v : View sig .tc sp S2560x512 .bf16) (f : v.ty.Contents (Elt Ideal)) (L : List (View.Piece (Elt Ideal) S2560x512 .bf16))
    (h : ℕ) (hh : h < 2) (w : Vec Ideal S6144x256 .bf16) (r : Fin 2560) (c : Fin 512) (hc : c.val / 256 = h) (n : ℕ) (hn : n ≤ 8) (hy : r.val / 320 < n) :
    v.read (Elt Ideal) (v.writes (Elt Ideal) f (ylist ax hx x L h hh w n)) (ix2 r c)
      = (∑ k : Fin 6144, (x (ix2 r k) : EReal) * (w (ix2 k (⟨c.val % 256, by omega⟩ : Fin 256)) : EReal) : EReal) := by
  induction n with
  | zero => omega
  | succ n ih =>
    by_cases e : r.val / 320 = n
    · refine (View.read_writes_cons_unit_of_mem v f (inb_y n h hh) _ _ _
        (ix2 (⟨r.val % 320, by omega⟩ : Fin 320) (⟨c.val % 256, by omega⟩ : Fin 256)) rfl (Fin.forall_fin_two.mpr ⟨?_, ?_⟩)).trans ?_
      · show r.val = 320 * (n % 8) + r.val % 320; omega
      · show c.val = 256 * h + c.val % 256; omega
      · rw [prod_apply]
        refine Finset.sum_congr rfl fun k _ => ?_
        rw [hx.readAt_unread]
        refine congrArg (fun i => (x i : EReal) * _) (funext (Fin.forall_fin_two.mpr ⟨Fin.ext ?_, Fin.ext ?_⟩))
        · show 320 * (n % 8) + 1 * (r.val % 320) = r.val; omega
        · show 0 + 1 * k.val = k.val; omega
    · refine Eq.trans ?_ (ih (by omega) (by omega))
      refine View.read_writes_cons_unit_of_not_mem v f (inb_y n h hh) _ _ _ rfl 0 ?_
      show r.val < 320 * (n % 8) ∨ 320 * (n % 8) + 320 ≤ r.val; omega

/-- The chunks of one half leave the places of the other as they were. -/
theorem read_ylist_other {sp : Space} (v : View sig .tc sp S2560x512 .bf16) (f : v.ty.Contents (Elt Ideal)) (L : List (View.Piece (Elt Ideal) S2560x512 .bf16))
    (h : ℕ) (hh : h < 2) (w : Vec Ideal S6144x256 .bf16) (r : Fin 2560) (c : Fin 512) (hc : c.val / 256 ≠ h) (n : ℕ) :
    v.read (Elt Ideal) (v.writes (Elt Ideal) f (ylist ax hx x L h hh w n)) (ix2 r c)
      = v.read (Elt Ideal) (v.writes (Elt Ideal) f L) (ix2 r c) := by
  induction n with
  | zero => rfl
  | succ n ih =>
    refine Eq.trans ?_ ih
    refine View.read_writes_cons_unit_of_not_mem v f (inb_y n h hh) _ _ _ rfl 1 ?_
    show c.val < 256 * h ∨ 256 * h + 256 ≤ c.val; omega

/-- A step's stores into the result's buffer leave the products with its two tiles side by side. -/
theorem read_step {sp : Space} (v : View sig .tc sp S2560x512 .bf16) (f : v.ty.Contents (Elt Ideal)) (w0 w1 : Vec Ideal S6144x256 .bf16) (r : Fin 2560) (c : Fin 512) :
    v.read (Elt Ideal) (v.writes (Elt Ideal) f (ylist ax hx x (ylist ax hx x [] 0 (by decide) w0 8) 1 (by decide) w1 8)) (ix2 r c)
      = (∑ k : Fin 6144, (x (ix2 r k) : EReal) * ((if c.val / 256 < 1 then w0 else w1) (ix2 k (⟨c.val % 256, by omega⟩ : Fin 256)) : EReal) : EReal) := by
  split
  · rw [read_ylist_other ax hx x v f _ 1 _ w1 r c (by omega), read_ylist ax hx x v f [] 0 _ w0 r c (by omega) 8 (by omega) (by omega)]
  · rw [read_ylist ax hx x v f _ 1 _ w1 r c (by omega) 8 (by omega) (by omega)]

end

end Cert.KernelIdeal.Gen

end
-- ==== Proof.Run.lean ====
/- The kernel's run with its result's array named, and that array block by block. -/
module

public import proofs.«01_k».proof.Proof.Gen.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What step `t` writes back to the result: the run's contents of the result's buffer, read through the window's block. -/
theorem flushed16 (c : Dev nD) (t : Fin cfg0.N) :
    (dats m 0 c).flushed 16 t = (cfg0.win 16).cut (grid0.coords t) ((outsAt0 m c t.val t.isLt).1) := by
  show (cfg0.win 16).cut (grid0.coords t) ((dats m 0 c).after 16 t) = _
  rw [after0_16]

/-- The index map sends distinct grid points to distinct block indices. -/
theorem idx_inj16 : ∀ t t' : Fin cfg0.N, win0_16.index t = win0_16.index t' → t = t' :=
  (by decide +kernel : ∀ t t' : Fin grid0.N, win0_16.index t = win0_16.index t' → t = t')

/-- So two flushing points' blocks share no array index. -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- Block `t` of the final array, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v1) = (dats m 0 c).arrAt 16 cfg0.N :=
  (h c).1 16

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 11 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 11).trans (((dats m 0 c).arrAt_in 11 rfl _).trans ((A_eq m c 11).trans (V_main_arg1 m c)))

/-- After the frame run, argument `main_arg2` is as launched: input window 12 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 12).trans (((dats m 0 c).arrAt_in 12 rfl _).trans ((A_eq m c 12).trans (V_main_arg2 m c)))

/-- After the frame run, argument `main_arg3` is as launched: input window 13 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 13).trans (((dats m 0 c).arrAt_in 13 rfl _).trans ((A_eq m c 13).trans (V_main_arg3 m c)))

/-- After the frame run, argument `main_arg4` is as launched: input window 14 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 14).trans (((dats m 0 c).arrAt_in 14 rfl _).trans ((A_eq m c 14).trans (V_main_arg4 m c)))

/-- After the frame run, argument `main_arg5` is as launched: input window 15 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 15).trans (((dats m 0 c).arrAt_in 15 rfl _).trans ((A_eq m c 15).trans (V_main_arg5 m c)))

/-- The frame run with the result's array after the run named, the arguments unchanged. -/
theorem run_blocks : θ_run defs (onTc (τ := τ) (main (F := F))) ⟨m, fun _ => 0, ρ⟩ fun r => ∀ c : Dev nD,
      r.2.mem ((c : Thread nD τ).loc main_v1) = (dats m 0 c).arrAt 16 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post16 m r h c,
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Value

end
-- ==== Proof.Step.lean ====
/- What one step of the grid leaves in the result's buffer and in the carried array, as functions of its input blocks. -/
module

public import proofs.«01_k».proof.Proof.Tiles
public import proofs.«01_k».proof.Proof.Run

@[expose] public section

noncomputable section

namespace Cert.KernelIdeal.Gen

open Idealize.ShloMosaic Idealize.ShloMosaic.TcCoe

variable (m : (ℓ : Loc nD τ sig) → Buf (Elt Ideal) ℓ)

/-- The tile that step `t` dequantises for itself. -/
def odd (c : Dev nD) (t : Fin cfg0.N) : Vec Ideal S6144x256 .bf16 :=
  tile (iblk m c 6 t) (iblk m c 7 t) (iblk m c 8 t) (iblk m c 9 t) (iblk m c 10 t)

/-- The tile that step `t` dequantises for the next step. -/
def even (c : Dev nD) (t : Fin cfg0.N) : Vec Ideal S6144x256 .bf16 :=
  tile (iblk m c 11 t) (iblk m c 12 t) (iblk m c 13 t) (iblk m c 14 t) (iblk m c 15 t)

/-- The tile that the first step dequantises for itself. -/
def first (c : Dev nD) (t : Fin cfg0.N) : Vec Ideal S6144x256 .bf16 :=
  tile (iblk m c 1 t) (iblk m c 2 t) (iblk m c 3 t) (iblk m c 4 t) (iblk m c 5 t)

/-- The products of the rows with two tiles side by side. -/
def pair (x : Vec Ideal S2560x6144 .bf16) (w0 w1 : Vec Ideal S6144x256 .bf16) (r : Fin 2560) (l : Fin 512) : EReal :=
  ∑ k : Fin 6144, (x (ix2 r k) : EReal) * ((if l.val / 256 < 1 then w0 else w1) (ix2 k (⟨l.val % 256, by omega⟩ : Fin 256)) : EReal)

/-- Every step leaves the next step's tile. -/
theorem carried (c : Dev nD) (t : Fin cfg0.N) : (outsAt0 m c t.val t.isLt).2 = even m c t := by
  by_cases h0 : t.val % 32 = 0
  · rw [outsAt0_A m c t h0]
    dsimp only
    rw [sout0_A_0, carried_A]
    exact read_wlist_all ..
  · rw [outsAt0_B m c t h0]
    dsimp only
    rw [sout0_B_0, carried_B]
    exact read_wlist_all ..

theorem carried_of_eq (c : Dev nD) (t : Fin cfg0.N) (n : ℕ) (hn : n < cfg0.N) (h : n = t.val) : (outsAt0 m c n hn).2 = even m c t := by
  subst h; exact carried m c t

/-- A load of a whole carried array reads its contents. -/
theorem readAt_whole (a : Memref sig .tc .vmem S6144x256 .bf16) (ha : a.IsWhole) (X : Vec Ideal S6144x256 .bf16) :
    View.readAt (Elt Ideal) a.view (Rect.unit (s := S6144x256) ![0, 0] S6144x256.size inb_S6144x256_S6144x256_0_0).toLoadRect
      (ha.unread X) = X := by
  funext j
  rw [ha.readAt_unread, idx_whole]

/-- The first step's result. -/
theorem result_first (c : Dev nD) (t : Fin cfg0.N) (h0 : t.val % 32 = 0) (r : Fin 2560) (l : Fin 512) :
    (outsAt0 m c t.val t.isLt).1 (ix2 r l) = pair (iblk m c 0 t) (first m c t) (odd m c t) r l := by
  rw [outsAt0_A m c t h0]
  dsimp only
  rw [out0_A_16, result_A]
  refine (read_step ..).trans ?_
  rw [readCov_whole _ _ _ (read_wlist_all ..), readCov_whole _ _ _ (read_wlist_all ..)]
  rfl

/-- A later step's result. -/
theorem result_later (c : Dev nD) (t t' : Fin cfg0.N) (h0 : ¬t.val % 32 = 0) (ht : t.val = t'.val + 1) (r : Fin 2560) (l : Fin 512) :
    (outsAt0 m c t.val t.isLt).1 (ix2 r l) = pair (iblk m c 0 t) (even m c t') (odd m c t) r l := by
  rw [outsAt0_B m c t h0]
  dsimp only
  rw [out0_B_16, result_B]
  refine (read_step ..).trans ?_
  rw [readCov_whole _ _ _ (read_wlist_all ..)]
  rw [readAt_whole, carried_of_eq m c t' _ _ (by omega)]
  rfl

end Cert.KernelIdeal.Gen

end
-- ==== Proof.Out.lean ====
/- The result as one function of the argument arrays. -/
module

public import proofs.«01_k».proof.Proof.Codes

@[expose] public section

noncomputable section

namespace Q4K

open Idealize.ShloMosaic

/-- The dequantised weight at row `k` and column `c`. -/
def weight (q : (⟨2, ![6144, 8192]⟩ : Shape).Idx → BitVec 8) (d dm : (⟨2, ![24, 16384]⟩ : Shape).Idx → EReal)
    (sc mn : (⟨2, ![192, 16384]⟩ : Shape).Idx → BitVec 8) (k : Fin 6144) (c : Fin 16384) : EReal :=
  wgt (q (ix2 k (⟨c.val / 2, by omega⟩ : Fin 8192))) c.val (d (ix2 (⟨k.val / 256, by omega⟩ : Fin 24) c))
    (dm (ix2 (⟨k.val / 256, by omega⟩ : Fin 24) c)) (sc (ix2 (⟨k.val / 32, by omega⟩ : Fin 192) c))
    (mn (ix2 (⟨k.val / 32, by omega⟩ : Fin 192) c))

/-- The result: the rows times the weights. -/
def out (x : (⟨2, ![2560, 6144]⟩ : Shape).Idx → EReal) (q : (⟨2, ![6144, 8192]⟩ : Shape).Idx → BitVec 8)
    (d dm : (⟨2, ![24, 16384]⟩ : Shape).Idx → EReal) (sc mn : (⟨2, ![192, 16384]⟩ : Shape).Idx → BitVec 8) :
    (⟨2, ![2560, 16384]⟩ : Shape).Idx → EReal :=
  fun i => ∑ k : Fin 6144, x (ix2 (i 0 : Fin 2560) k) * weight q d dm sc mn k (i 1)

end Q4K

end
-- ==== Proof.Final.lean ====
/- The kernel's result array as one function of its argument arrays. -/
module

public import proofs.«01_k».proof.Proof.Step
public import proofs.«01_k».proof.Proof.Out
public import Idealize.ShloMosaic.Lib.Pipeline.ValueKit

@[expose] public section

noncomputable section

namespace Cert.KernelIdeal.Gen

open Idealize.ShloMosaic Idealize.ShloMosaic.TcCoe

variable (m : (ℓ : Loc nD τ sig) → Buf (Elt Ideal) ℓ)

/-- Tile `j` of the whole weights: the 256 columns from `256 * j`. -/
def tileOf (c : Dev nD) (j : ℕ) (hj : j < 64) : Vec Ideal S6144x256 .bf16 :=
  fun y => Q4K.weight (m ((c : Thread nD τ).loc main_arg1)) (m ((c : Thread nD τ).loc main_arg2)) (m ((c : Thread nD τ).loc main_arg3))
    (m ((c : Thread nD τ).loc main_arg4)) (m ((c : Thread nD τ).loc main_arg5)) (y 0) ⟨256 * j + (y 1).val, by
      have h : (y 1).val < 256 := (y 1).isLt
      omega⟩

theorem tileOf_congr (c : Dev nD) {j j' : ℕ} (h : j = j') (hj : j < 64) : tileOf m c j hj = tileOf m c j' (h ▸ hj) := by
  subst h; rfl

/-- A tile of blocks taken at column block `j` of the arrays is that tile of the whole weights. -/
theorem tile_eq (c : Dev nD) (j : ℕ) (hj : j < 64) (q : Vec Ideal S6144x128 .i8) (d dm : Vec Ideal S24x256 .f16) (sc mn : Vec Ideal S192x256 .i8)
    (hq : ∀ (k : Fin 6144) (l : Fin 128), q (ix2 k l) = m ((c : Thread nD τ).loc main_arg1) (ix2 k (⟨128 * j + l.val, by omega⟩ : Fin 8192)))
    (hd : ∀ (k : Fin 24) (l : Fin 256), d (ix2 k l) = m ((c : Thread nD τ).loc main_arg2) (ix2 k (⟨256 * j + l.val, by omega⟩ : Fin 16384)))
    (hm : ∀ (k : Fin 24) (l : Fin 256), dm (ix2 k l) = m ((c : Thread nD τ).loc main_arg3) (ix2 k (⟨256 * j + l.val, by omega⟩ : Fin 16384)))
    (hs : ∀ (k : Fin 192) (l : Fin 256), sc (ix2 k l) = m ((c : Thread nD τ).loc main_arg4) (ix2 k (⟨256 * j + l.val, by omega⟩ : Fin 16384)))
    (hn : ∀ (k : Fin 192) (l : Fin 256), mn (ix2 k l) = m ((c : Thread nD τ).loc main_arg5) (ix2 k (⟨256 * j + l.val, by omega⟩ : Fin 16384))) :
    tile q d dm sc mn = tileOf m c j hj := by
  funext y
  have h1 : (y 1).val < 256 := (y 1).isLt
  refine Q4K.wgt_congr ((hq _ _).trans (congrArg _ ?_)) (by show (y 1).val % 2 = (256 * j + (y 1).val) % 2; omega) (hd _ _) (hm _ _) (hs _ _) (hn _ _)
  refine funext (Fin.forall_fin_two.mpr ⟨rfl, Fin.ext ?_⟩)
  show 128 * j + (y 1).val / 2 = (256 * j + (y 1).val) / 2
  omega

theorem idx_first : ∀ t : Fin grid0.N, win0_1.index t = ![0, 0] ∧ win0_2.index t = ![0, 0] ∧ win0_3.index t = ![0, 0]
    ∧ win0_4.index t = ![0, 0] ∧ win0_5.index t = ![0, 0] := by decide +kernel

theorem idx_odd : ∀ t : Fin grid0.N, win0_6.index t = ![0, 2 * t.val + 1] ∧ win0_7.index t = ![0, 2 * t.val + 1] ∧ win0_8.index t = ![0, 2 * t.val + 1]
    ∧ win0_9.index t = ![0, 2 * t.val + 1] ∧ win0_10.index t = ![0, 2 * t.val + 1] := by decide +kernel

theorem idx_even : ∀ t : Fin grid0.N, win0_11.index t = ![0, min (2 * t.val + 2) 63] ∧ win0_12.index t = ![0, min (2 * t.val + 2) 63]
    ∧ win0_13.index t = ![0, min (2 * t.val + 2) 63] ∧ win0_14.index t = ![0, min (2 * t.val + 2) 63] ∧ win0_15.index t = ![0, min (2 * t.val + 2) 63] := by
  decide +kernel

theorem idx_rows : ∀ t : Fin grid0.N, win0_0.index t = ![0, 0] := by decide +kernel

theorem idx_out : ∀ t : Fin grid0.N, win0_16.index t = ![0, t.val] := by decide +kernel

theorem first_eq (c : Dev nD) (t : Fin cfg0.N) : first m c t = tileOf m c 0 (by decide) := by
  obtain ⟨e1, e2, e3, e4, e5⟩ := idx_first t
  refine tile_eq m c 0 _ _ _ _ _ _ (fun k l => ?_) (fun k l => ?_) (fun k l => ?_) (fun k l => ?_) (fun k l => ?_) <;> blk_simp [iblk]
  · rw [V_main_arg1]; exact congrArg _ (by blk_ext [e1])
  · rw [V_main_arg2]; exact congrArg _ (by blk_ext [e2])
  · rw [V_main_arg3]; exact congrArg _ (by blk_ext [e3])
  · rw [V_main_arg4]; exact congrArg _ (by blk_ext [e4])
  · rw [V_main_arg5]; exact congrArg _ (by blk_ext [e5])

theorem odd_eq (c : Dev nD) (t : Fin cfg0.N) : odd m c t = tileOf m c (2 * t.val + 1) (by have : t.val < 32 := t.isLt; omega) := by
  obtain ⟨e1, e2, e3, e4, e5⟩ := idx_odd t
  refine tile_eq m c _ _ _ _ _ _ _ (fun k l => ?_) (fun k l => ?_) (fun k l => ?_) (fun k l => ?_) (fun k l => ?_) <;> blk_simp [iblk]
  · rw [V_main_arg1]; exact congrArg _ (by blk_ext [e1])
  · rw [V_main_arg2]; exact congrArg _ (by blk_ext [e2])
  · rw [V_main_arg3]; exact congrArg _ (by blk_ext [e3])
  · rw [V_main_arg4]; exact congrArg _ (by blk_ext [e4])
  · rw [V_main_arg5]; exact congrArg _ (by blk_ext [e5])

theorem even_eq (c : Dev nD) (t : Fin cfg0.N) (h : 2 * t.val + 2 < 64) : even m c t = tileOf m c (2 * t.val + 2) h := by
  have hmin : min (2 * t.val + 2) 63 = 2 * t.val + 2 := by omega
  obtain ⟨e1, e2, e3, e4, e5⟩ := idx_even t
  rw [hmin] at e1 e2 e3 e4 e5
  refine tile_eq m c _ _ _ _ _ _ _ (fun k l => ?_) (fun k l => ?_) (fun k l => ?_) (fun k l => ?_) (fun k l => ?_) <;> blk_simp [iblk]
  · rw [V_main_arg1]; exact congrArg _ (by blk_ext [e1])
  · rw [V_main_arg2]; exact congrArg _ (by blk_ext [e2])
  · rw [V_main_arg3]; exact congrArg _ (by blk_ext [e3])
  · rw [V_main_arg4]; exact congrArg _ (by blk_ext [e4])
  · rw [V_main_arg5]; exact congrArg _ (by blk_ext [e5])

/-- Step `t` multiplies the rows with tiles `2 * t` and `2 * t + 1`. -/
theorem result_eq (c : Dev nD) (t : Fin cfg0.N) (r : Fin 2560) (l : Fin 512) (h0 : 2 * t.val < 64) (h1 : 2 * t.val + 1 < 64) :
    (outsAt0 m c t.val t.isLt).1 (ix2 r l) = pair (iblk m c 0 t) (tileOf m c (2 * t.val) h0) (tileOf m c (2 * t.val + 1) h1) r l := by
  by_cases hz : t.val % 32 = 0
  · rw [result_first m c t hz, first_eq, odd_eq]
    rw [tileOf_congr m c (show 2 * t.val = 0 by omega) h0]
  · obtain ⟨n, hn⟩ : ∃ n, t.val = n + 1 := ⟨t.val - 1, by omega⟩
    have hlt : n < cfg0.N := by have := t.isLt; omega
    rw [result_later m c t ⟨n, hlt⟩ hz hn, even_eq m c ⟨n, hlt⟩ (by show 2 * n + 2 < 64; omega), odd_eq]
    rw [tileOf_congr m c (show 2 * t.val = 2 * n + 2 by omega) h0]

/-- The kernel's result array. -/
theorem final (c : Dev nD) : (dats m 0 c).arrAt 16 cfg0.N =
    Q4K.out (V m c main_v0) (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_covers 16 _ (by decide +kernel) fun t hf y => ?_
  blk_simp
  rw [after0_16]
  have ht : t.val < 32 := t.isLt
  have e0 := idx_rows t
  have e16 := idx_out t
  have hy0 : (y 0).val < 2560 := (y 0).isLt
  have hy1 : (y 1).val < 512 := (y 1).isLt
  have hy : y = (ix2 (⟨(y 0).val, hy0⟩ : Fin 2560) (⟨(y 1).val, hy1⟩ : Fin 512) : S2560x512.Idx) :=
    funext (Fin.forall_fin_two.mpr ⟨rfl, rfl⟩)
  rw [hy]
  refine (result_eq m c t _ _ (by omega) (by omega)).trans ?_
  unfold pair Q4K.out
  refine Finset.sum_congr rfl fun k _ => ?_
  refine congr (congrArg _ ?_) ?_
  · blk_simp [iblk]
    exact congrArg _ (by blk_ext [e0, e16])
  · have he : ((win0_16.blk t).view.emb (ix2 (⟨(y 0).val, hy0⟩ : Fin 2560) (⟨(y 1).val, hy1⟩ : Fin 512)) 1).val = 512 * t.val + (y 1).val := by
      blk_simp [e16]
      show t.val * 512 + (y 1).val = _
      omega
    split
    · rename_i hlt
      exact congrArg (Q4K.weight _ _ _ _ _ k) (Fin.ext (Eq.trans (by
        show 256 * (2 * t.val) + (y 1).val % 256 = _
        have : (y 1).val / 256 < 1 := hlt
        omega) he.symm))
    · rename_i hlt
      exact congrArg (Q4K.weight _ _ _ _ _ k) (Fin.ext (Eq.trans (by
        show 256 * (2 * t.val + 1) + (y 1).val % 256 = _
        have : ¬ (y 1).val / 256 < 1 := hlt
        omega) he.symm))

end Cert.KernelIdeal.Gen

end
-- ==== Proof.Ref.lean ====
/- What the reference computes, read at an index: the sum over the contracted axis of the rows' entries times the
   dequantised weights. -/
module

public import proofs.«01_k».proof.Proof.Gen.ReferenceIdeal.Value
public import proofs.«01_k».proof.Proof.Codes

@[expose] public section

noncomputable section

namespace Cert.ReferenceIdeal.Gen

open Idealize.ShloMosaic

/-- The dequantised weights, as the reference's lines print. -/
def wref (v0 : Vec Ideal S6144x8192 .i8) (v12 v13 : Vec Ideal S24x16384 .f16) (v14 v15 : Vec Ideal S192x16384 .i8) :
    FVec Ideal S24x8x32x16384 .f32 :=
  have v1 : IVec S6144x8192 32 := extui 32 v0 natLt_8_32
  have v2 : IVec S6144x8192 32 := broadcast S6144x8192 15#32
  have v3 : IVec S6144x8192 32 := andi v1 v2
  have v4 : FVec Ideal S6144x8192 .f32 := sitofp .f32 v3
  have v5 : IVec S6144x8192 32 := broadcast S6144x8192 4#32
  have v6 : IVec S6144x8192 32 := shrsi v1 v5
  have v7 : FVec Ideal S6144x8192 .f32 := sitofp .f32 v6
  have v8 : FVec Ideal S6144x8192x1 .f32 := shapeCast S6144x8192x1 v4 shapeCasts_S6144x8192_S6144x8192x1
  have v9 : FVec Ideal S6144x8192x1 .f32 := shapeCast S6144x8192x1 v7 shapeCasts_S6144x8192_S6144x8192x1
  have v10 : FVec Ideal S6144x8192x2 .f32 := concatenate S6144x8192x2 2 [⟨S6144x8192x1, v8⟩, ⟨S6144x8192x1, v9⟩] concatenates_S6144x8192x1_S6144x8192x1_S6144x8192x2_d2
  have v11 : FVec Ideal S6144x16384 .f32 := shapeCast S6144x16384 v10 shapeCasts_S6144x8192x2_S6144x16384
  have v16 : FVec Ideal S24x16384 .f32 := extf .f32 v12 bitsLt_f16_f32
  have v17 : FVec Ideal S24x1x16384 .f32 := shapeCast S24x1x16384 v16 shapeCasts_S24x16384_S24x1x16384
  have v18 : FVec Ideal S192x16384 .f32 := uitofp .f32 v14
  have v19 : FVec Ideal S24x8x16384 .f32 := shapeCast S24x8x16384 v18 shapeCasts_S192x16384_S24x8x16384
  have v20 : FVec Ideal S24x8x16384 .f32 := broadcastTo S24x8x16384 v17 broadcasts_S24x1x16384_S24x8x16384
  have v21 : FVec Ideal S24x8x16384 .f32 := mulf v20 v19
  have v22 : FVec Ideal S24x16384 .f32 := extf .f32 v13 bitsLt_f16_f32
  have v23 : FVec Ideal S24x1x16384 .f32 := shapeCast S24x1x16384 v22 shapeCasts_S24x16384_S24x1x16384
  have v24 : FVec Ideal S192x16384 .f32 := uitofp .f32 v15
  have v25 : FVec Ideal S24x8x16384 .f32 := shapeCast S24x8x16384 v24 shapeCasts_S192x16384_S24x8x16384
  have v26 : FVec Ideal S24x8x16384 .f32 := broadcastTo S24x8x16384 v23 broadcasts_S24x1x16384_S24x8x16384
  have v27 : FVec Ideal S24x8x16384 .f32 := mulf v26 v25
  have v28 : FVec Ideal S24x8x32x16384 .f32 := shapeCast S24x8x32x16384 v11 shapeCasts_S6144x16384_S24x8x32x16384
  have v29 : FVec Ideal S24x8x1x16384 .f32 := shapeCast S24x8x1x16384 v21 shapeCasts_S24x8x16384_S24x8x1x16384
  have v30 : FVec Ideal S24x8x32x16384 .f32 := broadcastTo S24x8x32x16384 v29 broadcasts_S24x8x1x16384_S24x8x32x16384
  have v31 : FVec Ideal S24x8x32x16384 .f32 := mulf v28 v30
  have v32 : FVec Ideal S24x8x1x16384 .f32 := shapeCast S24x8x1x16384 v27 shapeCasts_S24x8x16384_S24x8x1x16384
  have v33 : FVec Ideal S24x8x32x16384 .f32 := broadcastTo S24x8x32x16384 v32 broadcasts_S24x8x1x16384_S24x8x32x16384
  subf v31 v33

/-- The reference's block: the product of the rows with the rounded weights, rounded. -/
theorem pay_eq (v0 : Vec Ideal S6144x8192 .i8) (v12 v13 : Vec Ideal S24x16384 .f16) (v14 v15 : Vec Ideal S192x16384 .i8)
    (v37 : Vec Ideal S2560x6144 .bf16) :
    k0_pay1 v0 v12 v13 v14 v15 v37 =
      truncf .bf16 (matmul (φ₁ := .bf16) dot_S2560x6144_S6144x16384_S2560x16384_1_0_0_1_n_n none
        (shapeCast (α := Ideal .bf16) S2560x6144 v37 shapeCasts_S2560x6144_S2560x6144)
        (shapeCast S6144x16384 (truncf .bf16 (wref v0 v12 v13 v14 v15) bitsLt_bf16_f32) shapeCasts_S24x8x32x16384_S6144x16384)
        (constant S2560x16384 .f32 0x00000000#32)) bitsLt_bf16_f32 := rfl

/-- The product read at an index. -/
theorem mm_apply (X : FVec Ideal S2560x6144 .bf16) (W : FVec Ideal S24x8x32x16384 .f32) (r : Fin 2560) (c : Fin 16384) :
      truncf .bf16 (matmul dot_S2560x6144_S6144x16384_S2560x16384_1_0_0_1_n_n none
        (shapeCast S2560x6144 X shapeCasts_S2560x6144_S2560x6144)
        (shapeCast S6144x16384 (truncf .bf16 W bitsLt_bf16_f32) shapeCasts_S24x8x32x16384_S6144x16384)
        (constant S2560x16384 .f32 0x00000000#32)) bitsLt_bf16_f32 (ix2 r c) =
        ∑ k : Fin 6144, X (ix2 r k) * W (ix4 ⟨k.val / 256, by omega⟩ ⟨k.val / 32 % 8, by omega⟩ ⟨k.val % 32, by omega⟩ c) := by
  pointwise

/-- The interleaved codes read at an index. -/
theorem codes_apply (v4 v7 : FVec Ideal S6144x8192 .f32) (a : Fin 24) (b : Fin 8) (e : Fin 32) (c : Fin 16384) :
  shapeCast S24x8x32x16384 (shapeCast S6144x16384 (concatenate S6144x8192x2 2 [⟨S6144x8192x1, shapeCast S6144x8192x1 v4 shapeCasts_S6144x8192_S6144x8192x1⟩, ⟨S6144x8192x1, shapeCast S6144x8192x1 v7 shapeCasts_S6144x8192_S6144x8192x1⟩] concatenates_S6144x8192x1_S6144x8192x1_S6144x8192x2_d2) shapeCasts_S6144x8192x2_S6144x16384) shapeCasts_S6144x16384_S24x8x32x16384 (ix4 a b e c) = (if c.val % 2 < 1 then v4 else v7) (ix2 ⟨a.val * 256 + b.val * 32 + e.val, by omega⟩ ⟨c.val / 2, by omega⟩) := by
  pointwise
  split <;> rfl

/-- A scale times the sub-blocks' integers, spread over the rows, read at an index. -/
theorem scales_apply (v12 : Vec Ideal S24x16384 .f16) (v14 : Vec Ideal S192x16384 .i8) (a : Fin 24) (b : Fin 8) (e : Fin 32) (c : Fin 16384) :
   broadcastTo S24x8x32x16384 (shapeCast S24x8x1x16384 (mulf (broadcastTo S24x8x16384 (shapeCast S24x1x16384 (extf .f32 (φ := .f16) v12 bitsLt_f16_f32) shapeCasts_S24x16384_S24x1x16384) broadcasts_S24x1x16384_S24x8x16384) (shapeCast S24x8x16384 (uitofp (F := Ideal) .f32 v14) shapeCasts_S192x16384_S24x8x16384)) shapeCasts_S24x8x16384_S24x8x1x16384) broadcasts_S24x8x1x16384_S24x8x32x16384 (ix4 a b e c) = (v12 (ix2 a c) : EReal) * (((v14 (ix2 ⟨a.val * 8 + b.val, by omega⟩ c) : BitVec 8).toNat : ℝ) : EReal) := by
  pointwise
  rfl

/-- The dequantised weights read at an index. -/
theorem wref_apply (qs : Vec Ideal S6144x8192 .i8) (d dm : Vec Ideal S24x16384 .f16) (sc mn : Vec Ideal S192x16384 .i8)
    (a : Fin 24) (b : Fin 8) (e : Fin 32) (c : Fin 16384) :
    wref qs d dm sc mn (ix4 a b e c) =
      Q4K.wgt (qs (ix2 ⟨a.val * 256 + b.val * 32 + e.val, by omega⟩ ⟨c.val / 2, by omega⟩)) c.val (d (ix2 a c))
        (dm (ix2 a c)) (sc (ix2 ⟨a.val * 8 + b.val, by omega⟩ c)) (mn (ix2 ⟨a.val * 8 + b.val, by omega⟩ c)) := by
  unfold wref Q4K.wgt
  rw [subf_apply, mulf_apply]
  rw [scales_apply, scales_apply, codes_apply]
  rw [Q4K.nib]
  split
  · rw [← Q4K.lo_nib]; rfl
  · rw [← Q4K.hi_nib]; rfl

/-- The reference's result read at an index. -/
theorem pay_apply (qs : Vec Ideal S6144x8192 .i8) (d dm : Vec Ideal S24x16384 .f16) (sc mn : Vec Ideal S192x16384 .i8)
    (x : Vec Ideal S2560x6144 .bf16) (r : Fin 2560) (c : Fin 16384) :
    k0_pay1 qs d dm sc mn x (ix2 r c) = (∑ k : Fin 6144, (x (ix2 r k) : EReal) *
      Q4K.wgt (qs (ix2 k ⟨c.val / 2, by omega⟩)) c.val (d (ix2 ⟨k.val / 256, by omega⟩ c)) (dm (ix2 ⟨k.val / 256, by omega⟩ c))
        (sc (ix2 ⟨k.val / 32, by omega⟩ c)) (mn (ix2 ⟨k.val / 32, by omega⟩ c)) : EReal) := by
  rw [pay_eq, mm_apply]
  refine Finset.sum_congr rfl fun k _ => ?_
  rw [wref_apply]
  have h1 : k.val / 256 * 256 + k.val / 32 % 8 * 32 + k.val % 32 = k.val := by omega
  have h2 : k.val / 256 * 8 + k.val / 32 % 8 = k.val / 32 := by omega
  simp only [h1, h2]

end Cert.ReferenceIdeal.Gen

end
-- ==== Proof.RefFinal.lean ====
/- The reference's result array as one function of its argument arrays. -/
module

public import proofs.«01_k».proof.Proof.Ref
public import proofs.«01_k».proof.Proof.Out
public import Idealize.ShloMosaic.Lib.Pipeline.ValueKit

@[expose] public section

noncomputable section

namespace Cert.ReferenceIdeal.Gen

open Idealize.ShloMosaic Idealize.ShloMosaic.TcCoe

variable (m : (ℓ : Loc nD τ sig) → Buf (Elt Ideal) ℓ)

theorem idx_zero : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by decide +kernel

/-- The reference's result array. -/
theorem final (c : Dev nD) : (dats m 0 c).arrAt 6 cfg0.N =
    Q4K.out (V m c main_v0) (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_covers 6 _ (by decide +kernel) fun t hf y => ?_
  blk_simp
  rw [after0_6]
  obtain ⟨e0, e1, e2, e3, e4, e5, e6⟩ := idx_zero t
  have hy0 : (y 0).val < 2560 := (y 0).isLt
  have hy1 : (y 1).val < 16384 := (y 1).isLt
  have hy : y = (ix2 (⟨(y 0).val, hy0⟩ : Fin 2560) (⟨(y 1).val, hy1⟩ : Fin 16384) : S2560x16384.Idx) :=
    funext (Fin.forall_fin_two.mpr ⟨rfl, rfl⟩)
  rw [hy]
  frame_out
  refine (pay_apply _ _ _ _ _ _ _ _).trans ?_
  unfold Q4K.out Q4K.weight
  refine Finset.sum_congr rfl fun k _ => ?_
  have h6 : ((win0_6.blk t).view.emb (ix2 (⟨(y 0).val, hy0⟩ : Fin 2560) (⟨(y 1).val, hy1⟩ : Fin 16384)) 1) = (⟨(y 1).val, hy1⟩ : Fin 16384) := by
    refine Fin.ext ?_
    blk_simp [e6]
    try omega
  rw [h6]
  refine congr (congrArg _ ?_) (Q4K.wgt_congr ?_ rfl ?_ ?_ ?_ ?_) <;> blk_simp [iblk]
  · exact congrArg _ (by blk_ext [e0, e6])
  · rw [V_main_arg1]; exact congrArg _ (by blk_ext [e1])
  · rw [V_main_arg2]; exact congrArg _ (by blk_ext [e2])
  · rw [V_main_arg3]; exact congrArg _ (by blk_ext [e3])
  · rw [V_main_arg4]; exact congrArg _ (by blk_ext [e4])
  · rw [V_main_arg5]; exact congrArg _ (by blk_ext [e5])

end Cert.ReferenceIdeal.Gen

end
-- ==== Proof.Equal.lean ====
/- The kernel and the reference end with the same result: both hold the rows times the dequantised weights. -/
module

public import proofs.«01_k».proof.Defs
public import proofs.«01_k».proof.Proof.Final
public import proofs.«01_k».proof.Proof.RefFinal

@[expose] public section

noncomputable section

namespace Cert.Proof

open Idealize.ShloMosaic Idealize.ShloMosaic.TcCoe Idealize.SL.Sem

theorem rows_casts : KernelIdeal.S2560x1x6144.ShapeCasts KernelIdeal.S2560x6144 := by decide

/-- The rows that the kernel's region finds: the first argument without its middle axis. -/
theorem rows_kernel (m : (ℓ : Loc KernelIdeal.nD KernelIdeal.τ KernelIdeal.sig) → Buf (Elt Ideal) ℓ) (c : Dev KernelIdeal.nD) :
    KernelIdeal.Gen.V m c KernelIdeal.main_v0
      = shapeCast (α := EReal) KernelIdeal.S2560x6144 (m (c.tc.loc KernelIdeal.main_arg0)) rows_casts :=
  rfl

/-- The rows that the reference's region finds: the same. -/
theorem rows_reference (m : (ℓ : Loc ReferenceIdeal.nD ReferenceIdeal.τ ReferenceIdeal.sig) → Buf (Elt Ideal) ℓ) (c : Dev ReferenceIdeal.nD) :
    ReferenceIdeal.Gen.V m c ReferenceIdeal.main_v0
      = shapeCast (α := EReal) KernelIdeal.S2560x6144 (m (c.tc.loc ReferenceIdeal.main_arg0)) rows_casts :=
  rfl

theorem algebraic : Cert.algebraic_KernelIdeal_ReferenceIdeal := by
  intro m g m' g' _ hargs
  refine ⟨fun c => (KernelIdeal.Gen.dats m 0 c).arrAt 16 KernelIdeal.cfg0.N, KernelIdeal.Value.run_blocks m g, ?_⟩
  refine (θ_run _ _ _).mono (fun r h c => ?_) (ReferenceIdeal.Value.run_blocks m' g')
  refine ⟨(h c).1.trans ?_, (h c).2⟩
  obtain ⟨h0, h1, h2, h3, h4, h5⟩ := hargs c
  dsimp only
  rw [ReferenceIdeal.Gen.final, KernelIdeal.Gen.final, rows_kernel, rows_reference]
  rw [h0, h1, h2, h3, h4, h5]

end Cert.Proof

end
-- ==== Proof.lean ====
module

public import proofs.«01_k».proof.Defs
public import proofs.«01_k».proof.Proof.Gen.Kernel.Frame
public import proofs.«01_k».proof.Proof.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => Cert.ReferenceIdeal.Gen.frame m g, trivial, algebraic⟩

end Cert.Proof

end
